-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x3 : Shape := ⟨2, ![65536, 3]⟩
abbrev S_ : Shape := ⟨0, ![]⟩
abbrev S127 : Shape := ⟨1, ![127]⟩
abbrev S1 : Shape := ⟨1, ![1]⟩
abbrev S128 : Shape := ⟨1, ![128]⟩
abbrev S1x128 : Shape := ⟨2, ![1, 128]⟩
abbrev S3x65536x128 : Shape := ⟨3, ![3, 65536, 128]⟩
abbrev S65536x128 : Shape := ⟨2, ![65536, 128]⟩
abbrev S2048x3 : Shape := ⟨2, ![2048, 3]⟩
abbrev S3x2048x128 : Shape := ⟨3, ![3, 2048, 128]⟩
abbrev S2048x128 : Shape := ⟨2, ![2048, 128]⟩
abbrev S2048x1 : Shape := ⟨2, ![2048, 1]⟩
abbrev S1x2048x128 : Shape := ⟨3, ![1, 2048, 128]⟩
abbrev S65536x128x3 : Shape := ⟨3, ![65536, 128, 3]⟩
abbrev S65536x128x1 : Shape := ⟨3, ![65536, 128, 1]⟩

abbrev nBuf : Space → Nat
  | .hbm => 30
  | .vmem => 9
  | .smem => 0
  | _ => 0

abbrev bufTy : (tb : Table) → Fin (tcTables nBuf tb) → BufTy
  | .hbm, ⟨0, _⟩ => ⟨S65536x3, .f32⟩
  | .hbm, ⟨1, _⟩ => ⟨S65536x3, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S127, .f32⟩
  | .hbm, ⟨10, _⟩ => ⟨S_, .f32⟩
  | .hbm, ⟨11, _⟩ => ⟨S127, .f32⟩
  | .hbm, ⟨12, _⟩ => ⟨S127, .f32⟩
  | .hbm, ⟨13, _⟩ => ⟨S1, .f32⟩
  | .hbm, ⟨14, _⟩ => ⟨S_, .f32⟩
  | .hbm, ⟨15, _⟩ => ⟨S127, .f32⟩
  | .hbm, ⟨16, _⟩ => ⟨S127, .f32⟩
  | .hbm, ⟨17, _⟩ => ⟨S127, .f32⟩
  | .hbm, ⟨18, _⟩ => ⟨S127, .f32⟩
  | .hbm, ⟨19, _⟩ => ⟨S1, .f32⟩
  | .hbm, ⟨20, _⟩ => ⟨S127, .f32⟩
  | .hbm, ⟨21, _⟩ => ⟨S127, .f32⟩
  | .hbm, ⟨22, _⟩ => ⟨S127, .f32⟩
  | .hbm, ⟨23, _⟩ => ⟨S1, .f32⟩
  | .hbm, ⟨24, _⟩ => ⟨S128, .f32⟩
  | .hbm, ⟨25, _⟩ => ⟨S1x128, .f32⟩
  | .hbm, ⟨26, _⟩ => ⟨S3x65536x128, .f32⟩
  | .hbm, ⟨27, _⟩ => ⟨S65536x128, .f32⟩
  | .hbm, ⟨28, _⟩ => ⟨S65536x128x3, .f32⟩
  | .hbm, ⟨29, _⟩ => ⟨S65536x128x1, .f32⟩
  | .local _ .vmem, ⟨0, _⟩ => ⟨S2048x3, .f32⟩
  | .local _ .vmem, ⟨1, _⟩ => ⟨S2048x3, .f32⟩
  | .local _ .vmem, ⟨2, _⟩ => ⟨S2048x3, .f32⟩
  | .local _ .vmem, ⟨3, _⟩ => ⟨S2048x3, .f32⟩
  | .local _ .vmem, ⟨4, _⟩ => ⟨S1x128, .f32⟩
  | .local _ .vmem, ⟨5, _⟩ => ⟨S3x2048x128, .f32⟩
  | .local _ .vmem, ⟨6, _⟩ => ⟨S3x2048x128, .f32⟩
  | .local _ .vmem, ⟨7, _⟩ => ⟨S2048x128, .f32⟩
  | .local _ .vmem, ⟨8, _⟩ => ⟨S2048x128, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2_0 : Ref sig .tc := ⟨.hbm, 26, rfl⟩
abbrev main_v2_1 : Ref sig .tc := ⟨.hbm, 27, rfl⟩
abbrev main_v3 : Ref sig .tc := ⟨.hbm, 28, rfl⟩
abbrev main_v4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65536x3 : Shape := ⟨2, ![65536, 3]⟩
abbrev S_ : Shape := ⟨0, ![]⟩
abbrev S127 : Shape := ⟨1, ![127]⟩
abbrev S1 : Shape := ⟨1, ![1]⟩
abbrev S128 : Shape := ⟨1, ![128]⟩
abbrev S1x128x1 : Shape := ⟨3, ![1, 128, 1]⟩
abbrev S65536x1x3 : Shape := ⟨3, ![65536, 1, 3]⟩
abbrev S65536x128x3 : Shape := ⟨3, ![65536, 128, 3]⟩
abbrev S65536x128x1 : Shape := ⟨3, ![65536, 128, 1]⟩

abbrev nBuf : Space → Nat
  | .hbm => 38
  | .vmem => 0
  | .smem => 0
  | _ => 0

abbrev bufTy : (tb : Table) → Fin (tcTables nBuf tb) → BufTy
  | .hbm, ⟨0, _⟩ => ⟨S65536x3, .f32⟩
  | .hbm, ⟨1, _⟩ => ⟨S65536x3, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S127, .f32⟩
  | .hbm, ⟨10, _⟩ => ⟨S_, .f32⟩
  | .hbm, ⟨11, _⟩ => ⟨S127, .f32⟩
  | .hbm, ⟨12, _⟩ => ⟨S127, .f32⟩
  | .hbm, ⟨13, _⟩ => ⟨S1, .f32⟩
  | .hbm, ⟨14, _⟩ => ⟨S_, .f32⟩
  | .hbm, ⟨15, _⟩ => ⟨S127, .f32⟩
  | .hbm, ⟨16, _⟩ => ⟨S127, .f32⟩
  | .hbm, ⟨17, _⟩ => ⟨S127, .f32⟩
  | .hbm, ⟨18, _⟩ => ⟨S127, .f32⟩
  | .hbm, ⟨19, _⟩ => ⟨S1, .f32⟩
  | .hbm, ⟨20, _⟩ => ⟨S127, .f32⟩
  | .hbm, ⟨21, _⟩ => ⟨S127, .f32⟩
  | .hbm, ⟨22, _⟩ => ⟨S127, .f32⟩
  | .hbm, ⟨23, _⟩ => ⟨S1, .f32⟩
  | .hbm, ⟨24, _⟩ => ⟨S128, .f32⟩
  | .hbm, ⟨25, _⟩ => ⟨S1x128x1, .f32⟩
  | .hbm, ⟨26, _⟩ => ⟨S65536x1x3, .f32⟩
  | .hbm, ⟨27, _⟩ => ⟨S65536x128x3, .f32⟩
  | .hbm, ⟨28, _⟩ => ⟨S65536x1x3, .f32⟩
  | .hbm, ⟨29, _⟩ => ⟨S65536x128x3, .f32⟩
  | .hbm, ⟨30, _⟩ => ⟨S65536x128x3, .f32⟩
  | .hbm, ⟨31, _⟩ => ⟨S65536x128x3, .f32⟩
  | .hbm, ⟨32, _⟩ => ⟨S65536x128x3, .f32⟩
  | .hbm, ⟨33, _⟩ => ⟨S65536x128x1, .f32⟩
  | .hbm, ⟨34, _⟩ => ⟨S_, .f32⟩
  | .hbm, ⟨35, _⟩ => ⟨S65536x128x1, .f32⟩
  | .hbm, ⟨36, _⟩ => ⟨S65536x128x1, .f32⟩
  | .hbm, ⟨37, _⟩ => ⟨S65536x128x1, .f32⟩
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩

abbrev nD : Nat := 1
abbrev τ : Topo := Topo.v7x

variable {F : FTy → Type} [FloatOps F]
-- ==== Proof.Rays.Block.lean ====
/-
  What one grid point of the ray sampler leaves in its two output blocks, as functions of its three input blocks.
-/
module

public import proofs.«01_k».proof.Proof.Gen.KernelIdeal.Frame
public import Idealize.ShloMosaic.Lib.Pipeline.ValueKit
public import Idealize.ShloMosaic.Lib.ValueIdxCoords

@[expose] public section

noncomputable section

namespace Cert.KernelIdeal.Rays

open Cert.KernelIdeal Cert.KernelIdeal.Gen
open Idealize.ShloMosaic

variable {F : FTy → Type} [FloatOps F]

/-- One sample coordinate: origin plus direction times depth. -/
def sample (o d z : F .f32) : F .f32 := FloatOps.addf o (FloatOps.mulf d z)

/-- The sample block of a point: plane `k`, ray `r`, depth `p` holds coordinate `k` of ray `r`'s sample at depth `p`. -/
def samples (o d : Vec F S2048x3 .f32) (z : Vec F S1x128 .f32) : Vec F S3x2048x128 .f32 :=
  fun y => sample (o (ix2 (y 1) (y 0))) (d (ix2 (y 1) (y 0))) (z (ix2 0 (y 2)))

/-- A cell of a stored plane, in the sample block: the plane's number in front, ray and depth kept. -/
theorem plane_emb (k : Fin 3) (h : ∀ a, (![k.val, 0, 0] : Fin 3 → Nat) a + S1x2048x128.size a ≤ S3x2048x128.size a)
    (x : S1x2048x128.Idx) :
    (Rect.unit (s := S3x2048x128) ![k.val, 0, 0] S1x2048x128.size h).emb x = (ix3 k (x 1) (x 2) : S3x2048x128.Idx) := by
  blk_ext []

/-- The plane stored for coordinate `0` is that plane of `samples`. -/
theorem plane0 (o d : Vec F S2048x3 .f32) (z : Vec F S1x128 .f32) (x : r0_2.shape.Idx) :
    k0_pay3 (View.ld z r0_0) (View.ld o r0_1) (View.ld d r0_1) x = samples o d z (r0_2.emb x) := by
  rw [show r0_2.emb x = _ from plane_emb 0 _ x]
  pointwise [k0_pay3, k0_pay2, samples, sample]

/-- The plane stored for coordinate `1` is that plane of `samples`. -/
theorem plane1 (o d : Vec F S2048x3 .f32) (z : Vec F S1x128 .f32) (x : r0_4.shape.Idx) :
    k0_pay4 (View.ld z r0_0) (View.ld o r0_3) (View.ld d r0_3) x = samples o d z (r0_4.emb x) := by
  rw [show r0_4.emb x = _ from plane_emb 1 _ x]
  pointwise [k0_pay4, k0_pay2, samples, sample]

/-- The plane stored for coordinate `2` is that plane of `samples`. -/
theorem plane2 (o d : Vec F S2048x3 .f32) (z : Vec F S1x128 .f32) (x : r0_6.shape.Idx) :
    k0_pay5 (View.ld z r0_0) (View.ld o r0_5) (View.ld d r0_5) x = samples o d z (r0_6.emb x) := by
  rw [show r0_6.emb x = _ from plane_emb 2 _ x]
  pointwise [k0_pay5, k0_pay2, samples, sample]

/-- The three stored planes together are the whole sample block. -/
theorem out_samples (o d : Vec F S2048x3 .f32) (z : Vec F S1x128 .f32) : out0_3 o d z = samples o d z := by
  funext y
  refine View.canon_apply_of_pieces _ _ ?_ y (cover0_3 _ _ _ y)
  simp only [List.forall_mem_cons, List.forall_mem_nil, and_true]
  exact ⟨plane2 o d z, plane1 o d z, plane0 o d z, fun _ h => nomatch h⟩

/-- The depth block of a point: every ray's row is the row of depths. -/
def lengths (z : Vec F S1x128 .f32) : Vec F S2048x128 .f32 := fun y => z (ix2 0 (y 1))

/-- The body's one store to the depth block leaves the row of depths in every row. -/
theorem out_lengths (o d : Vec F S2048x3 .f32) (z : Vec F S1x128 .f32) : out0_4 o d z = lengths z := by
  frame_out
  funext y
  pointwise [k0_pay1, k0_pay6, k0_pay2, lengths]

end Cert.KernelIdeal.Rays

end
-- ==== Proof.Rays.Entry.lean ====
/-
  The row of sample depths the host computes before the launch, and that the launch finds it in the depth operand.
-/
module

public import proofs.«01_k».proof.Proof.Gen.KernelIdeal.Frame
public import Idealize.ShloMosaic.Lib.Claim

@[expose] public section

noncomputable section

namespace Cert.KernelIdeal.Rays

open Cert.KernelIdeal Cert.KernelIdeal.Gen
open Idealize.ShloMosaic Idealize.ShloMosaic.TcCoe Idealize.ShloMosaic.StableHlo

variable {F : FTy → Type} [FloatOps F]

/-- How far along the way each depth but the last lies: `p / 127` for `p < 127`. -/
def fraction : FVec F S127 .f32 :=
  Host.divf (sitofp .f32 (iotaInDim S127 32 0)) (broadcastInDim S127 ![] bcast_S_S127 (constant S_ .f32 0x42FE0000#32))

/-- The near and the far end, as scalars. -/
def near : FVec F S_ .f32 := constant S_ .f32 0x3DCCCCCD#32
def far : FVec F S_ .f32 := constant S_ .f32 0x42C80000#32

/-- Each depth but the last: the weighted mean `near * (1 - fraction) + far * fraction`. -/
def inner : FVec F S127 .f32 :=
  addf
    (mulf (broadcastInDim S127 ![0] bcast_S1_S127_0 (shapeCast S1 near shapeCasts_S_S1))
      (subf (broadcastInDim S127 ![] bcast_S_S127 (constant S_ .f32 0x3F800000#32)) fraction))
    (mulf (broadcastInDim S127 ![0] bcast_S1_S127_0 (shapeCast S1 far shapeCasts_S_S1)) fraction)

/-- The depths: the inner ones, then the far end itself. -/
def depths : FVec F S128 .f32 :=
  concatenate S128 0 [⟨S127, inner⟩, ⟨S1, broadcastInDim S1 ![] bcast_S_S1 far⟩] concatenates_S127_S1_S128_d0

variable (m : (ℓ : Loc nD τ sig) → Buf (Elt F) ℓ)

/-- The launch finds the depths in the kernel's third operand, as one row. -/
theorem entry_depths (c : Dev nD) : V m c main_v1 = shapeCast S1x128 (depths (F := F)) shapeCasts_S128_S1x128 := by
  simp only [V, V0, hostOps0, hostOps0_1, hostOps0_2, List.flatten_cons, List.flatten_nil, List.append_nil,
    List.cons_append, List.nil_append, TRef.binary, TRef.nullary, TRef.reshape, TRef.unary, TRef.toBuf, TRef.ofBuf, cast_eq]
  after_results_simp <;> rfl

end Cert.KernelIdeal.Rays

end
-- ==== Proof.Rays.Array.lean ====
/-
  What the two output arrays of the launch hold when every grid point has run: the whole sample planes and the whole
  depth table, as functions of the two arguments and the row of depths.
-/
module

public import proofs.«01_k».proof.Proof.Rays.Block
public import proofs.«01_k».proof.Proof.Rays.Entry

@[expose] public section

noncomputable section

namespace Cert.KernelIdeal.Rays

open Cert.KernelIdeal Cert.KernelIdeal.Gen
open Idealize.ShloMosaic Idealize.ShloMosaic.TcCoe

variable {F : FTy → Type} [FloatOps F]

/-- All sample planes: plane `k`, ray `b`, depth `p` holds coordinate `k` of ray `b`'s sample at depth `p`. -/
def planes (o d : FVec F S65536x3 .f32) (z : FVec F S128 .f32) : FVec F S3x65536x128 .f32 :=
  fun i => sample (o (ix2 (i 1) (i 0))) (d (ix2 (i 1) (i 0))) (z (ix1 (i 2)))

/-- The depth table: every ray's row is the depths. -/
def table (z : FVec F S128 .f32) : FVec F S65536x128 .f32 := fun i => z (ix1 (i 1))

/-- Which block each window is on at point `t`: ray block `t` everywhere, the depth row always the same. -/
theorem blocks : ∀ t : Fin cfg0.N, win0_0.index t = ![t.val, 0] ∧ win0_1.index t = ![t.val, 0]
    ∧ win0_2.index t = ![0, 0] ∧ win0_3.index t = ![0, t.val, 0] ∧ win0_4.index t = ![t.val, 0] :=
  (by decide +kernel : ∀ t : Fin grid0.N, _)

variable (m : (ℓ : Loc nD τ sig) → Buf (Elt F) ℓ)

/-- The origin block at point `t` is rows `2048 * t …` of the origins. -/
theorem origins_at (c : Dev nD) (t : Fin cfg0.N) (x : S2048x3.Idx) (i : S65536x3.Idx)
    (h0 : (i 0).val = t.val * 2048 + (x 0).val) (h1 : (i 1).val = (x 1).val) :
    iblk m c 0 t x = m ((c : Thread nD τ).loc main_arg0) i := by
  unfold iblk
  rw [show V m c (Pipeline.arrRef spec0 0) = _ from V_main_arg0 m c]
  blk_ext [blocks t, h0, h1]

/-- The direction block at point `t` is rows `2048 * t …` of the directions. -/
theorem directions_at (c : Dev nD) (t : Fin cfg0.N) (x : S2048x3.Idx) (i : S65536x3.Idx)
    (h0 : (i 0).val = t.val * 2048 + (x 0).val) (h1 : (i 1).val = (x 1).val) :
    iblk m c 1 t x = m ((c : Thread nD τ).loc main_arg1) i := by
  unfold iblk
  rw [show V m c (Pipeline.arrRef spec0 1) = _ from V_main_arg1 m c]
  blk_ext [blocks t, h0, h1]

/-- The depth block at every point is the row of depths. -/
theorem depths_at (c : Dev nD) (t : Fin cfg0.N) (p q : Fin 128) (h : q.val = p.val) :
    iblk m c 2 t (ix2 0 p : S1x128.Idx) = depths (F := F) (ix1 q) := by
  obtain rfl : q = p := Fin.ext h
  unfold iblk
  rw [show V m c (Pipeline.arrRef spec0 2) = _ from entry_depths m c]
  blk_simp [blocks t]
  rw [show (win0_2.blk t).view.emb (ix2 0 q : S1x128.Idx) = (ix2 0 q : S1x128.Idx) by blk_ext [blocks t]]
  pointwise []

/-- After the launch the plane array holds all sample planes. -/
theorem array_planes (c : Dev nD) : (dats m 0 c).arrAt 3 cfg0.N
    = planes (m ((c : Thread nD τ).loc main_arg0)) (m ((c : Thread nD τ).loc main_arg1)) depths := by
  refine (dats m 0 c).arrAt_eq_of_covers 3 _ (by decide +kernel) fun t _ y => ?_
  blk_simp
  rw [after0_3, out_samples]
  unfold samples planes sample
  congr 1
  · exact origins_at m c t _ _ (by blk_simp [blocks t]) (by blk_simp [blocks t])
  congr 1
  · exact directions_at m c t _ _ (by blk_simp [blocks t]) (by blk_simp [blocks t])
  · exact depths_at m c t _ _ (by blk_simp [blocks t])

/-- After the launch the depth array holds the depth table. -/
theorem array_table (c : Dev nD) : (dats m 0 c).arrAt 4 cfg0.N = table (F := F) depths := by
  refine (dats m 0 c).arrAt_eq_of_covers 4 _ (by decide +kernel) fun t _ y => ?_
  blk_simp
  rw [after0_4, out_lengths]
  unfold lengths table
  exact depths_at m c t _ _ (by blk_simp [blocks t])

end Cert.KernelIdeal.Rays

end
-- ==== Proof.Rays.Kernel.lean ====
/-
  The kernel program's two results, as functions of its arguments: the transposed sample planes and the depth table with
  a trailing axis of one.
-/
module

public import proofs.«01_k».proof.Proof.Rays.Array

@[expose] public section

noncomputable section

namespace Cert.KernelIdeal.Rays

open Cert.KernelIdeal Cert.KernelIdeal.Gen
open Idealize.ShloMosaic Idealize.ShloMosaic.TcCoe Idealize.SL.Sem

variable {F : FTy → Type} [FloatOps F]

/-- The sample points: ray `b`, depth `p`, coordinate `k` holds origin plus direction times depth. -/
def points (o d : FVec F S65536x3 .f32) (z : FVec F S128 .f32) : FVec F S65536x128x3 .f32 :=
  fun i => sample (o (ix2 (i 0) (i 2))) (d (ix2 (i 0) (i 2))) (z (ix1 (i 1)))

/-- The sample lengths: every ray's lengths are the depths. -/
def lens (z : FVec F S128 .f32) : FVec F S65536x128x1 .f32 := fun i => z (ix1 (i 1))

/-- The planes with the coordinate axis moved last are the sample points. -/
theorem transpose_planes (o d : FVec F S65536x3 .f32) (z : FVec F S128 .f32) :
    transpose S65536x128x3 [1, 2, 0] (planes o d z) transposes_S3x65536x128_S65536x128x3_1_2_0 = points o d z := by
  funext i
  pointwise [planes, points]

/-- The depth table with a trailing axis of one is the sample lengths. -/
theorem reshape_table (z : FVec F S128 .f32) :
    shapeCast S65536x128x1 (table z) shapeCasts_S65536x128_S65536x128x1 = lens z := by
  funext i
  pointwise [table, lens]

variable (m : (ℓ : Loc nD τ sig) → Buf (Elt F) ℓ) (ρ : Dev nD → PrngReg)

/-- What the lines after the launch leave in the first result. -/
theorem result_points (c : Dev nD) : Pipeline.afterTail₀ cfgs (dats m) 0 (V0 m) [hostOps1] c main_v3
    = points (m ((c : Thread nD τ).loc main_arg0)) (m ((c : Thread nD τ).loc main_arg1)) depths := by
  rw [← transpose_planes, ← array_planes m c,
    ← Pipeline.withArrays_arr spec0 winFacts0.arr_inj c (V0 m c) (fun w => (dats m 0 c).arrAt w cfg0.N) 3]
  unfold Pipeline.afterTail₀
  simp only [hostOps1, List.flatten_cons, List.flatten_nil, List.append_nil]
  after_results_simp <;> rfl

/-- What the lines after the launch leave in the second result. -/
theorem result_lens (c : Dev nD) : Pipeline.afterTail₀ cfgs (dats m) 0 (V0 m) [hostOps1] c main_v4
    = lens (F := F) depths := by
  rw [← reshape_table, ← array_table m c,
    ← Pipeline.withArrays_arr spec0 winFacts0.arr_inj c (V0 m c) (fun w => (dats m 0 c).arrAt w cfg0.N) 4]
  unfold Pipeline.afterTail₀
  simp only [hostOps1, List.flatten_cons, List.flatten_nil, List.append_nil]
  after_results_simp <;> rfl

/-- Every run of the kernel program ends with the sample points and lengths in its results, its arguments unchanged. -/
theorem run : θ_run defs (onTc (τ := τ) (main (F := F))) ⟨m, fun _ => 0, ρ⟩ fun r => ∀ c : Dev nD,
    r.2.mem ((c.tc : Thread nD τ).loc main_v3)
        = points (m ((c : Thread nD τ).loc main_arg0)) (m ((c : Thread nD τ).loc main_arg1)) depths
      ∧ r.2.mem ((c.tc : Thread nD τ).loc main_v4) = lens (F := F) depths
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨((h c).2 main_v3 (by decide)).trans (result_points m c), ((h c).2 main_v4 (by decide)).trans (result_lens m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Rays

end
-- ==== Proof.Rays.Reference.lean ====
/-
  The reference program's two results, as functions of its arguments, and that over the extended reals they are the
  kernel program's.
-/
module

public import proofs.«01_k».proof.Proof.Rays.Kernel
public import proofs.«01_k».proof.Proof.Gen.ReferenceIdeal.Run
public import Idealize.ShloMosaic.Lib.ValueIdxCoords

@[expose] public section

noncomputable section

namespace Cert.ReferenceIdeal.Rays

open Cert.ReferenceIdeal Cert.ReferenceIdeal.Gen
open Idealize.ShloMosaic Idealize.ShloMosaic.TcCoe Idealize.SL.Sem
open Cert.KernelIdeal.Rays (sample points lens depths)

variable {F : FTy → Type} [FloatOps F]

/-- Origins and directions broadcast over the depths, the depths over rays and coordinates, then one multiply and one
    add of whole arrays: entry by entry, the sample points. -/
theorem points_eq (o d : FVec F S65536x3 .f32) (z : FVec F S128 .f32) :
    addf
      (broadcastInDim S65536x128x3 ![0, 1, 2] bcast_S65536x1x3_S65536x128x3_0_1_2
        (broadcastInDim S65536x1x3 ![0, 2] bcast_S65536x3_S65536x1x3_0_2 o))
      (mulf
        (broadcastInDim S65536x128x3 ![0, 1, 2] bcast_S65536x1x3_S65536x128x3_0_1_2
          (broadcastInDim S65536x1x3 ![0, 2] bcast_S65536x3_S65536x1x3_0_2 d))
        (broadcastInDim S65536x128x3 ![0, 1, 2] bcast_S1x128x1_S65536x128x3_0_1_2
          (shapeCast S1x128x1 z shapeCasts_S128_S1x128x1)))
      = points o d z := by
  funext i
  pointwise [points, sample]

/-- The all-ones array. -/
def ones : FVec F S65536x128x1 .f32 :=
  broadcastInDim S65536x128x1 ![] bcast_S_S65536x128x1 (constant S_ .f32 0x3F800000#32)

/-- The depths broadcast over the rays are the sample lengths. -/
theorem lens_eq (z : FVec F S128 .f32) :
    broadcastInDim S65536x128x1 ![0, 1, 2] bcast_S1x128x1_S65536x128x1_0_1_2
      (shapeCast S1x128x1 z shapeCasts_S128_S1x128x1) = lens z := by
  funext i
  pointwise [lens]

variable (m : (ℓ : Loc nD τ sig) → Buf (Elt F) ℓ) (ρ : Dev nD → PrngReg)

/-- Every run of the reference program ends with the sample points in its first result and the sample lengths times one
    in its second, its arguments unchanged. -/
theorem run : θ_run defs (onTc (τ := τ) (main (F := F))) ⟨m, fun _ => 0, ρ⟩ fun r => ∀ c : Dev nD,
    r.2.mem ((c.tc : Thread nD τ).loc main_v8)
        = points (m ((c : Thread nD τ).loc main_arg0)) (m ((c : Thread nD τ).loc main_arg1)) depths
      ∧ r.2.mem ((c.tc : Thread nD τ).loc main_v12) = mulf (lens (F := F) depths) ones
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans (points_eq _ _ depths), (h c).2.1.trans (congrArg (mulf · ones) (lens_eq depths)), (h c).2.2⟩)
    (Value.run m ρ)

/-- Over the extended reals, multiplying by the all-ones array changes nothing. -/
theorem mulf_ones (x : FVec Ideal S65536x128x1 .f32) : mulf x ones = x := by
  funext i
  pointwise [ones]

end Cert.ReferenceIdeal.Rays

end
-- ==== Proof.lean ====
/-
  The proof of `Cert.Claim`: the three programs run to the end with every semaphore counter at zero and their arguments
  unchanged, the idealized kernel is the printed kernel, and over the extended reals the kernel's two results are the
  reference's. The mathematics is in `Proof/Rays/`; this module assembles it.
-/
module

public import proofs.«01_k».proof.Defs
public import proofs.«01_k».proof.Proof.Gen.Kernel.Frame
public import proofs.«01_k».proof.Proof.Rays.Reference
public import Idealize.ShloMosaic.Adequacy
public import Idealize.ShloMosaic.Lib.Claim
public import Idealize.ShloMosaic.Lib.Quiescent

@[expose] public section

noncomputable section

namespace Cert.Proof

open Idealize.ShloMosaic Idealize.SL.Sem

/-- The reference runs to the end with every counter at zero, its arguments unchanged. -/
theorem quiescent_reference : Cert.quiescent_ReferenceIdeal (hReferenceIdeal := Cert.ReferenceIdeal.Gen.facts) := by
  intro m g _
  refine (θ_run _ _ _).mono (fun r h => ⟨fun c => ⟨(h c).2.2.1, (h c).2.2.2⟩, ?_⟩) (Cert.ReferenceIdeal.Rays.run m g)
  exact sem_eq_zero_of_no_sems (by decide) r.2

/-- Over the extended reals, from equal arguments, the kernel and the reference end with equal results. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Rays.run m g
  · run_from Cert.ReferenceIdeal.Rays.run m' g'
    exact Cert.ReferenceIdeal.Rays.mulf_ones _

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, quiescent_reference, trivial, algebraic⟩

end Cert.Proof

end
